-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4096 : Shape := ⟨3, ![8, 1, 4096]⟩
abbrev S2048x14336 : Shape := ⟨2, ![2048, 14336]⟩
abbrev S256x14336 : Shape := ⟨2, ![256, 14336]⟩
abbrev S_ : Shape := ⟨0, ![]⟩
abbrev S1x1 : Shape := ⟨2, ![1, 1]⟩
abbrev S8x4096 : Shape := ⟨2, ![8, 4096]⟩
abbrev S8x14336 : Shape := ⟨2, ![8, 14336]⟩
abbrev S2048x1024 : Shape := ⟨2, ![2048, 1024]⟩
abbrev S256x1024 : Shape := ⟨2, ![256, 1024]⟩
abbrev S8x1024 : Shape := ⟨2, ![8, 1024]⟩
abbrev S256x1x1024 : Shape := ⟨3, ![256, 1, 1024]⟩
abbrev S256x2x1024 : Shape := ⟨3, ![256, 2, 1024]⟩
abbrev S512x1024 : Shape := ⟨2, ![512, 1024]⟩
abbrev S32x1024 : Shape := ⟨2, ![32, 1024]⟩
abbrev S32x1x1024 : Shape := ⟨3, ![32, 1, 1024]⟩
abbrev S32x16x1024 : Shape := ⟨3, ![32, 16, 1024]⟩
abbrev S8x512 : Shape := ⟨2, ![8, 512]⟩

abbrev nBuf : Space → Nat
  | .hbm => 7
  | .vmem => 7
  | .smem => 1
  | _ => 0

abbrev bufTy : (tb : Table) → Fin (tcTables nBuf tb) → BufTy
  | .hbm, ⟨0, _⟩ => ⟨S8x1x4096, .bf16⟩
  | .hbm, ⟨1, _⟩ => ⟨S2048x14336, .i8⟩
  | .hbm, ⟨2, _⟩ => ⟨S256x14336, .fp8e4m3⟩
  | .hbm, ⟨3, _⟩ => ⟨S_, .f32⟩
  | .hbm, ⟨4, _⟩ => ⟨S1x1, .f32⟩
  | .hbm, ⟨5, _⟩ => ⟨S8x4096, .bf16⟩
  | .hbm, ⟨6, _⟩ => ⟨S8x14336, .bf16⟩
  | .local _ .vmem, ⟨0, _⟩ => ⟨S8x4096, .bf16⟩
  | .local _ .vmem, ⟨1, _⟩ => ⟨S2048x1024, .i8⟩
  | .local _ .vmem, ⟨2, _⟩ => ⟨S2048x1024, .i8⟩
  | .local _ .vmem, ⟨3, _⟩ => ⟨S256x1024, .fp8e4m3⟩
  | .local _ .vmem, ⟨4, _⟩ => ⟨S256x1024, .fp8e4m3⟩
  | .local _ .vmem, ⟨5, _⟩ => ⟨S8x1024, .bf16⟩
  | .local _ .vmem, ⟨6, _⟩ => ⟨S8x1024, .bf16⟩
  | .local _ .smem, ⟨0, _⟩ => ⟨S1x1, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1x4096 : Shape := ⟨3, ![8, 1, 4096]⟩
abbrev S2048x14336 : Shape := ⟨2, ![2048, 14336]⟩
abbrev S256x14336 : Shape := ⟨2, ![256, 14336]⟩
abbrev S_ : Shape := ⟨0, ![]⟩
abbrev S8x4096 : Shape := ⟨2, ![8, 4096]⟩
abbrev S8x2048 : Shape := ⟨2, ![8, 2048]⟩
abbrev S1x1 : Shape := ⟨2, ![1, 1]⟩
abbrev S8x14336 : Shape := ⟨2, ![8, 14336]⟩
abbrev S256x8x14336 : Shape := ⟨3, ![256, 8, 14336]⟩
abbrev S256x1x14336 : Shape := ⟨3, ![256, 1, 14336]⟩

abbrev nBuf : Space → Nat
  | .hbm => 9
  | .vmem => 6
  | .smem => 0
  | _ => 0

abbrev bufTy : (tb : Table) → Fin (tcTables nBuf tb) → BufTy
  | .hbm, ⟨0, _⟩ => ⟨S8x1x4096, .bf16⟩
  | .hbm, ⟨1, _⟩ => ⟨S2048x14336, .i8⟩
  | .hbm, ⟨2, _⟩ => ⟨S256x14336, .fp8e4m3⟩
  | .hbm, ⟨3, _⟩ => ⟨S_, .f32⟩
  | .hbm, ⟨4, _⟩ => ⟨S8x4096, .bf16⟩
  | .hbm, ⟨5, _⟩ => ⟨S8x2048, .bf16⟩
  | .hbm, ⟨6, _⟩ => ⟨S8x2048, .bf16⟩
  | .hbm, ⟨7, _⟩ => ⟨S1x1, .f32⟩
  | .hbm, ⟨8, _⟩ => ⟨S8x14336, .bf16⟩
  | .local _ .vmem, ⟨0, _⟩ => ⟨S8x2048, .bf16⟩
  | .local _ .vmem, ⟨1, _⟩ => ⟨S8x2048, .bf16⟩
  | .local _ .vmem, ⟨2, _⟩ => ⟨S2048x14336, .i8⟩
  | .local _ .vmem, ⟨3, _⟩ => ⟨S256x14336, .fp8e4m3⟩
  | .local _ .vmem, ⟨4, _⟩ => ⟨S1x1, .f32⟩
  | .local _ .vmem, ⟨5, _⟩ => ⟨S8x14336, .bf16⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x14336 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x14336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Product.lean ====
/-
  What both programs compute, in plain mathematics over the extended reals, and the facts about it that the two
  sides use: the decoding of a 4-bit e2m1 code, the sum over 512 rows as a sum over 256 bytes of two rows each, and the
  sum over 2048 bytes as eight sums over 256.
-/
module

public import Idealize.ShloMosaic.Lib.Pointwise

@[expose] public section

set_option maxRecDepth 16384

noncomputable section

namespace Cert.Product

open Idealize.ShloMosaic

/-- The value of a 4-bit e2m1 code, by the table of its sixteen values: codes 1 to 7 are 0.5, 1, 1.5, 2, 3, 4, 6, codes 8
    to 15 are minus zero and the same magnitudes negated, and any other word is zero. -/
def e2m1 (c : BitVec 32) : EReal :=
  Scalar.select (IntOp.cmpi .eq c 15#32) (Ideal.ofBits .bf16 0xC0C0#16)
  (Scalar.select (IntOp.cmpi .eq c 14#32) (Ideal.ofBits .bf16 0xC080#16)
  (Scalar.select (IntOp.cmpi .eq c 13#32) (Ideal.ofBits .bf16 0xC040#16)
  (Scalar.select (IntOp.cmpi .eq c 12#32) (Ideal.ofBits .bf16 0xC000#16)
  (Scalar.select (IntOp.cmpi .eq c 11#32) (Ideal.ofBits .bf16 0xBFC0#16)
  (Scalar.select (IntOp.cmpi .eq c 10#32) (Ideal.ofBits .bf16 0xBF80#16)
  (Scalar.select (IntOp.cmpi .eq c 9#32) (Ideal.ofBits .bf16 0xBF00#16)
  (Scalar.select (IntOp.cmpi .eq c 8#32) (Ideal.ofBits .bf16 0x8000#16)
  (Scalar.select (IntOp.cmpi .eq c 7#32) (Ideal.ofBits .bf16 0x40C0#16)
  (Scalar.select (IntOp.cmpi .eq c 6#32) (Ideal.ofBits .bf16 0x4080#16)
  (Scalar.select (IntOp.cmpi .eq c 5#32) (Ideal.ofBits .bf16 0x4040#16)
  (Scalar.select (IntOp.cmpi .eq c 4#32) (Ideal.ofBits .bf16 0x4000#16)
  (Scalar.select (IntOp.cmpi .eq c 3#32) (Ideal.ofBits .bf16 0x3FC0#16)
  (Scalar.select (IntOp.cmpi .eq c 2#32) 1
  (Scalar.select (IntOp.cmpi .eq c 1#32) (Ideal.ofBits .bf16 0x3F00#16) 0))))))))))))))

/-- The magnitude of a code by its three low bits, as the reference selects it. -/
def magnitude (c : BitVec 32) : EReal :=
  Scalar.select (IntOp.cmpi .ne (IntOp.andi c 4#32) 0#32)
    (Scalar.select (IntOp.cmpi .ne (IntOp.andi c 2#32) 0#32)
      (Scalar.select (IntOp.cmpi .ne (IntOp.andi c 1#32) 0#32) (Ideal.ofBits .bf16 0x40C0#16) (Ideal.ofBits .bf16 0x4080#16))
      (Scalar.select (IntOp.cmpi .ne (IntOp.andi c 1#32) 0#32) (Ideal.ofBits .bf16 0x4040#16) (Ideal.ofBits .bf16 0x4000#16)))
    (Scalar.select (IntOp.cmpi .ne (IntOp.andi c 2#32) 0#32)
      (Scalar.select (IntOp.cmpi .ne (IntOp.andi c 1#32) 0#32) (Ideal.ofBits .bf16 0x3FC0#16) 1)
      (Scalar.select (IntOp.cmpi .ne (IntOp.andi c 1#32) 0#32) (Ideal.ofBits .bf16 0x3F00#16) 0))

/-- A code's value by its fields: its magnitude, subtracted from zero where the sign bit is set. -/
def signed (c : BitVec 32) : EReal :=
  Scalar.select (IntOp.cmpi .ne (IntOp.andi c 8#32) 0#32) (0 - magnitude c) (magnitude c)

/-- A bf16 word with its sign bit set reads as zero minus what it reads as with the bit clear: the eight words of the
    table, minus zero first. -/
theorem ofBits_neg :
    Ideal.ofBits .bf16 0x8000#16 = 0
    ∧ Ideal.ofBits .bf16 0xBF00#16 = 0 - Ideal.ofBits .bf16 0x3F00#16
    ∧ Ideal.ofBits .bf16 0xBF80#16 = 0 - 1
    ∧ Ideal.ofBits .bf16 0xBFC0#16 = 0 - Ideal.ofBits .bf16 0x3FC0#16
    ∧ Ideal.ofBits .bf16 0xC000#16 = 0 - Ideal.ofBits .bf16 0x4000#16
    ∧ Ideal.ofBits .bf16 0xC040#16 = 0 - Ideal.ofBits .bf16 0x4040#16
    ∧ Ideal.ofBits .bf16 0xC080#16 = 0 - Ideal.ofBits .bf16 0x4080#16
    ∧ Ideal.ofBits .bf16 0xC0C0#16 = 0 - Ideal.ofBits .bf16 0x40C0#16 := by
  refine ⟨?_, ?_, ?_, ?_, ?_, ?_, ?_, ?_⟩ <;>
    simp [Ideal.ofBits, Ideal.ieee]
  all_goals first | rfl | (norm_cast; norm_num) | norm_num

/-- On a code below sixteen the fields and the table give one value. -/
theorem signed_eq (c : BitVec 32) (h : c.toNat < 16) : signed c = e2m1 c := by
  obtain ⟨k, hk, rfl⟩ : ∃ k, k < 16 ∧ c = BitVec.ofNat 32 k := ⟨c.toNat, h, by simp⟩
  obtain ⟨h0, h1, h2, h3, h4, h5, h6, h7⟩ := ofBits_neg
  interval_cases k <;>
    simp [signed, magnitude, e2m1, Scalar.select, IntOp.cmpi, IntOp.andi, h0, h1, h2, h3, h4, h5, h6, h7]

/-- The value of a byte's low code, the even row's. -/
def lo (b : BitVec 8) : EReal := e2m1 (IntOp.andi (BitVec.setWidth 32 b) 15#32)

/-- The value of a byte's high code, the odd row's. -/
def hi (b : BitVec 8) : EReal := e2m1 (IntOp.shrsi .vector (BitVec.setWidth 32 b) 4#32)

/-- A byte's two codes are below sixteen. -/
theorem code_lt : ∀ b : BitVec 8, (IntOp.andi (BitVec.setWidth 32 b) 15#32).toNat < 16
    ∧ (IntOp.shrsi .vector (BitVec.setWidth 32 b) 4#32).toNat < 16 := by
  decide +kernel

/-- So a byte's codes have the values that their fields give, -/
theorem lo_eq (b : BitVec 8) : lo b = signed (IntOp.andi (BitVec.setWidth 32 b) 15#32) := (signed_eq _ (code_lt b).1).symm

/-- the low and the high one. -/
theorem hi_eq (b : BitVec 8) : hi b = signed (IntOp.shrsi .vector (BitVec.setWidth 32 b) 4#32) :=
  (signed_eq _ (code_lt b).2).symm

/-- What packed row `r`, weight rows `2 r` and `2 r + 1`, adds to element `(i, n)` of the product: each row's activation
    times its decoded weight under the scale of the row's block of sixteen. -/
def term (x : FVec Ideal (⟨2, ![8, 4096]⟩ : Shape) .bf16) (w : IVec (⟨2, ![2048, 14336]⟩ : Shape) 8)
    (s : FVec Ideal (⟨2, ![256, 14336]⟩ : Shape) .fp8e4m3) (i : Fin 8) (n : Fin 14336) (r : Fin 2048) : EReal :=
  x (ix2 i ⟨2 * r, by omega⟩) * (lo (w (ix2 r n)) * s (ix2 ⟨r / 8, by omega⟩ n))
    + x (ix2 i ⟨2 * r + 1, by omega⟩) * (hi (w (ix2 r n)) * s (ix2 ⟨r / 8, by omega⟩ n))

/-- The product of the activations and the decoded, scaled weights, times the global scale: the function of the four
    arguments that both programs compute. -/
def product (x : FVec Ideal (⟨2, ![8, 4096]⟩ : Shape) .bf16) (w : IVec (⟨2, ![2048, 14336]⟩ : Shape) 8)
    (s : FVec Ideal (⟨2, ![256, 14336]⟩ : Shape) .fp8e4m3) (g : FVec Ideal (⟨2, ![1, 1]⟩ : Shape) .f32) :
    FVec Ideal (⟨2, ![8, 14336]⟩ : Shape) .bf16 :=
  fun j => (∑ r : Fin 2048, term x w s (j 0) (j 1) r) * g (ix2 0 0)

/-- Place `q` of group `p`, of `a` groups of `b` places each, is one of the `n = a * b` places. -/
theorem place_lt {a b n : Nat} (h : a * b = n) (p : Fin a) (q : Fin b) : b * p + q < n := by
  have hp := Nat.mul_le_mul_left b (Nat.succ_le_of_lt p.isLt)
  have hq := q.isLt
  rw [Nat.mul_succ, Nat.mul_comm b a, h] at hp
  omega

/-- A sum over `a * b` places is the sum over `a` groups of the sums over their `b` places. -/
theorem sum_groups {n : Nat} (a b : Nat) (h : a * b = n) (f : Fin n → EReal) :
    ∑ k, f k = ∑ p : Fin a, ∑ q : Fin b, f ⟨b * p + q, place_lt h p q⟩ := by
  subst h
  rw [← finProdFinEquiv.sum_comp, Fintype.sum_prod_type]
  refine Finset.sum_congr rfl fun p _ => Finset.sum_congr rfl fun q _ => congrArg f (Fin.ext ?_)
  simp [finProdFinEquiv, Nat.add_comm]

/-- A sum over 512 rows is a sum over 256 pairs of rows. -/
theorem sum_pairs (f : Fin 512 → EReal) :
    ∑ k, f k = ∑ r : Fin 256, (f ⟨2 * r, by omega⟩ + f ⟨2 * r + 1, by omega⟩) := by
  rw [sum_groups 256 2 rfl f]
  exact Finset.sum_congr rfl fun r _ => Fin.sum_univ_two _

/-- A sum over 2048 packed rows is the sum of eight sums over 256, added up from zero in order. -/
theorem sum_chunks (f : Fin 2048 → EReal) :
    ∑ r, f r = 0 + (∑ r : Fin 256, f ⟨r, by omega⟩) + (∑ r : Fin 256, f ⟨256 + r, by omega⟩)
      + (∑ r : Fin 256, f ⟨512 + r, by omega⟩) + (∑ r : Fin 256, f ⟨768 + r, by omega⟩)
      + (∑ r : Fin 256, f ⟨1024 + r, by omega⟩) + (∑ r : Fin 256, f ⟨1280 + r, by omega⟩)
      + (∑ r : Fin 256, f ⟨1536 + r, by omega⟩) + (∑ r : Fin 256, f ⟨1792 + r, by omega⟩) := by
  rw [sum_groups 8 256 rfl f, Fin.sum_univ_eight, zero_add]
  simp

end Cert.Product

end
-- ==== Proof.KernelValue.lean ====
/-
  The kernel's result at the extended reals: each grid point writes its tile of `Product.product`, and the fourteen
  tiles fill the result array. The body's eight chunks are one function, `chunk`, of eight slices of the point's blocks;
  it is read at an index once.
-/
module

public import proofs.«01_k».proof.Proof.Gen.KernelIdeal.Value
public import proofs.«01_k».proof.Proof.Product
public import Idealize.ShloMosaic.Lib.Pipeline.ValueKit

@[expose] public section

set_option maxRecDepth 16384

noncomputable section

namespace Cert.KernelIdeal.RefValue

open Cert.KernelIdeal Cert.KernelIdeal.Gen Cert.Product
open Idealize.ShloMosaic Idealize.ShloMosaic.TcCoe Idealize.SL.Sem

section
variable {F : FTy → Type} [FloatOps F]

/-- One chunk of the body: to the running sum, the product of a slice of the activations with the decoded packed rows
    under their blocks' scales. -/
def chunk (acc : FVec F S8x1024 .f32) (w : Vec F S256x1024 .i8) (s : Vec F S32x1024 .fp8e4m3) (x : Vec F S8x512 .bf16) :
    FVec F S8x1024 .f32 :=
  k0_pay9 acc (k0_pay7 (k0_pay3 w) (k0_pay4 w) (k0_pay5 w) k0_pay6) (k0_pay8 s) x

/-- The end of the body: the running sum times the global scale, in the result's format. -/
def finish (acc : FVec F S8x1024 .f32) (g : Elt F .f32) : FVec F S8x1024 .bf16 :=
  truncf .bf16 (mulf acc (broadcast S8x1024 g)) bitsLt_bf16_f32

/-- The body on its blocks: eight chunks from zero, then the global scale. -/
def body (g : Vec F S1x1 .f32) (x : Vec F S8x4096 .bf16) (w : Vec F S2048x1024 .i8) (s : Vec F S256x1024 .fp8e4m3) :
    FVec F S8x1024 .bf16 :=
  let a0 := chunk k0_pay2 (View.ld w (Rect.unit ![0, 0] ![256, 1024] inb_S2048x1024_S256x1024_0_0))
    (View.ld s (Rect.unit ![0, 0] ![32, 1024] inb_S256x1024_S32x1024_0_0))
    (View.ld x (Rect.unit ![0, 0] ![8, 512] inb_S8x4096_S8x512_0_0))
  let a1 := chunk a0 (View.ld w (Rect.unit ![256, 0] ![256, 1024] inb_S2048x1024_S256x1024_256_0))
    (View.ld s (Rect.unit ![32, 0] ![32, 1024] inb_S256x1024_S32x1024_32_0))
    (View.ld x (Rect.unit ![0, 512] ![8, 512] inb_S8x4096_S8x512_0_512))
  let a2 := chunk a1 (View.ld w (Rect.unit ![512, 0] ![256, 1024] inb_S2048x1024_S256x1024_512_0))
    (View.ld s (Rect.unit ![64, 0] ![32, 1024] inb_S256x1024_S32x1024_64_0))
    (View.ld x (Rect.unit ![0, 1024] ![8, 512] inb_S8x4096_S8x512_0_1024))
  let a3 := chunk a2 (View.ld w (Rect.unit ![768, 0] ![256, 1024] inb_S2048x1024_S256x1024_768_0))
    (View.ld s (Rect.unit ![96, 0] ![32, 1024] inb_S256x1024_S32x1024_96_0))
    (View.ld x (Rect.unit ![0, 1536] ![8, 512] inb_S8x4096_S8x512_0_1536))
  let a4 := chunk a3 (View.ld w (Rect.unit ![1024, 0] ![256, 1024] inb_S2048x1024_S256x1024_1024_0))
    (View.ld s (Rect.unit ![128, 0] ![32, 1024] inb_S256x1024_S32x1024_128_0))
    (View.ld x (Rect.unit ![0, 2048] ![8, 512] inb_S8x4096_S8x512_0_2048))
  let a5 := chunk a4 (View.ld w (Rect.unit ![1280, 0] ![256, 1024] inb_S2048x1024_S256x1024_1280_0))
    (View.ld s (Rect.unit ![160, 0] ![32, 1024] inb_S256x1024_S32x1024_160_0))
    (View.ld x (Rect.unit ![0, 2560] ![8, 512] inb_S8x4096_S8x512_0_2560))
  let a6 := chunk a5 (View.ld w (Rect.unit ![1536, 0] ![256, 1024] inb_S2048x1024_S256x1024_1536_0))
    (View.ld s (Rect.unit ![192, 0] ![32, 1024] inb_S256x1024_S32x1024_192_0))
    (View.ld x (Rect.unit ![0, 3072] ![8, 512] inb_S8x4096_S8x512_0_3072))
  let a7 := chunk a6 (View.ld w (Rect.unit ![1792, 0] ![256, 1024] inb_S2048x1024_S256x1024_1792_0))
    (View.ld s (Rect.unit ![224, 0] ![32, 1024] inb_S256x1024_S32x1024_224_0))
    (View.ld x (Rect.unit ![0, 3584] ![8, 512] inb_S8x4096_S8x512_0_3584))
  finish a7 (View.ld g (Rect.unit ![0, 0] ![1, 1] inb_S1x1_S1x1_0_0) (Shape.Idx.first (by decide)))

/-- What the run leaves in the result's block at a point is `body` of the point's blocks. -/
theorem outsAt_eq (m : (ℓ : Loc nD τ sig) → Buf (Elt F) ℓ) (c : Dev nD) (t : Fin cfg0.N) (j : S8x1024.Idx) :
    outsAt0 m c t j = body (iblk m c 0 t) (iblk m c 1 t) (iblk m c 2 t) (iblk m c 3 t) j := by
  unfold outsAt0
  frame_out
  rfl

end

/-- A chunk at an index: the running sum there, plus for each of the 256 packed rows the two products of its rows. -/
theorem chunk_apply (acc : FVec Ideal S8x1024 .f32) (w : Vec Ideal S256x1024 .i8) (s : Vec Ideal S32x1024 .fp8e4m3)
    (x : Vec Ideal S8x512 .bf16) (i : Fin 8) (n : Fin 1024) :
    chunk acc w s x (ix2 i n) = acc (ix2 i n) + ∑ r : Fin 256,
      ((x (ix2 i ⟨2 * r, by omega⟩) : EReal) * (lo (w (ix2 r n)) * s (ix2 ⟨r / 8, by omega⟩ n))
        + x (ix2 i ⟨2 * r + 1, by omega⟩) * (hi (w (ix2 r n)) * s (ix2 ⟨r / 8, by omega⟩ n))) := by
  pointwise [chunk, k0_pay9, k0_pay7, k0_pay3, k0_pay4, k0_pay5, k0_pay6, k0_pay8]
  rw [sum_pairs]
  refine congrArg _ (Finset.sum_congr rfl fun r _ => ?_)
  have h0 : 2 * (r : Nat) % 2 = 0 := by omega
  have h1 : (2 * (r : Nat) + 1) % 2 = 1 := by omega
  have d0 : 2 * (r : Nat) / 2 = r := by omega
  have d1 : (2 * (r : Nat) + 1) / 2 = r := by omega
  have s0 : 2 * (r : Nat) / 16 = r / 8 := by omega
  have s1 : (2 * (r : Nat) + 1) / 16 = r / 8 := by omega
  simp only [h0, h1, d0, d1, s0, s1, zero_lt_one, lt_irrefl, dif_pos, dif_neg, not_false_eq_true]
  rfl

/-- The body at an index: the sum over the 2048 packed rows of the blocks, times the global scale. -/
theorem body_apply (g : Vec Ideal S1x1 .f32) (x : Vec Ideal S8x4096 .bf16) (w : Vec Ideal S2048x1024 .i8)
    (s : Vec Ideal S256x1024 .fp8e4m3) (i : Fin 8) (n : Fin 1024) :
    body g x w s (ix2 i n) = (∑ r : Fin 2048,
      ((x (ix2 i ⟨2 * r, by omega⟩) : EReal) * (lo (w (ix2 r n)) * s (ix2 ⟨r / 8, by omega⟩ n))
        + x (ix2 i ⟨2 * r + 1, by omega⟩) * (hi (w (ix2 r n)) * s (ix2 ⟨r / 8, by omega⟩ n)))) * g (ix2 0 0) := by
  rw [sum_chunks]
  pointwise [body, finish, chunk_apply, k0_pay2]
  have d (r : Nat) : (256 + r) / 8 = 32 + r / 8 ∧ (512 + r) / 8 = 64 + r / 8 ∧ (768 + r) / 8 = 96 + r / 8
      ∧ (1024 + r) / 8 = 128 + r / 8 ∧ (1280 + r) / 8 = 160 + r / 8 ∧ (1536 + r) / 8 = 192 + r / 8
      ∧ (1792 + r) / 8 = 224 + r / 8 := by omega
  simp only [(d _).1, (d _).2.1, (d _).2.2.1, (d _).2.2.2.1, (d _).2.2.2.2.1, (d _).2.2.2.2.2.1, (d _).2.2.2.2.2.2,
    Nat.mul_add, Nat.reduceMul, Nat.add_assoc]

variable (m : (ℓ : Loc nD τ sig) → Buf (Elt Ideal) ℓ) (ρ : Dev nD → PrngReg)

/-- The blocks' places: the activations and the global scale are whole at every point, the weights, the scales and the
    result move one column tile per point. -/
theorem idx : ∀ t : Fin cfg0.N, win0_0.index t = ![0, 0] ∧ win0_1.index t = ![0, 0] ∧ win0_2.index t = ![0, t.val]
    ∧ win0_3.index t = ![0, t.val] ∧ win0_4.index t = ![0, t.val] :=
  (by decide +kernel : ∀ t : Fin grid0.N, _)

/-- The activations as the launch finds them: the argument as a matrix of eight rows. -/
abbrev X (c : Dev nD) : FVec Ideal S8x4096 .bf16 :=
  shapeCast S8x4096 (m ((c : Thread nD τ).loc main_arg0)) shapeCasts_S8x1x4096_S8x4096

/-- The global scale as the launch finds it: the argument as a matrix of one element. -/
abbrev Gl (c : Dev nD) : FVec Ideal S1x1 .f32 :=
  shapeCast S1x1 (m ((c : Thread nD τ).loc main_arg3)) shapeCasts_S_S1x1

/-- The launch finds the activations reshaped, -/
theorem V_x (c : Dev nD) : V m c main_v1 = X m c := by
  unfold_abbrev_sides
  after_results
  rfl

/-- and the global scale. -/
theorem V_g (c : Dev nD) : V m c main_v0 = Gl m c := by
  unfold_abbrev_sides
  after_results
  rfl

/-- The kernel's result array: the product of its arguments. -/
abbrev G (c : Dev nD) : FVec Ideal S8x14336 .bf16 :=
  product (X m c) (m ((c : Thread nD τ).loc main_arg1)) (m ((c : Thread nD τ).loc main_arg2)) (Gl m c)

/-- Column `n` of the tile of point `t` is a column of the array. -/
theorem col_lt (t : Fin cfg0.N) (n : Fin 1024) : t.val * 1024 + n < 14336 := by
  have := t.isLt; have h : cfg0.N = 14 := N_0; omega

/-- Where the blocks of point `t` lie: the global scale's and the activations' at themselves, -/
theorem emb0 (t : Fin cfg0.N) : (win0_0.blk t).view.emb (ix2 0 0 : S1x1.Idx) = (ix2 0 0 : S1x1.Idx) := by
  funext a; apply Fin.ext; fin_cases a <;> blk_simp [(idx t).1] <;> rfl

theorem emb1 (t : Fin cfg0.N) (i : Fin 8) (k : Fin 4096) :
    (win0_1.blk t).view.emb (ix2 i k : S8x4096.Idx) = (ix2 i k : S8x4096.Idx) := by
  funext a; apply Fin.ext; fin_cases a <;> blk_simp [(idx t).2.1] <;> simp [ix2]

/-- the packed rows', the scales' and the result's from column `1024 t` on. -/
theorem emb2 (t : Fin cfg0.N) (r : Fin 2048) (n : Fin 1024) : (win0_2.blk t).view.emb (ix2 r n : S2048x1024.Idx)
    = (ix2 r ⟨t.val * 1024 + n, col_lt t n⟩ : S2048x14336.Idx) := by
  funext a; apply Fin.ext; fin_cases a <;> blk_simp [(idx t).2.2.1] <;> simp [ix2]

theorem emb3 (t : Fin cfg0.N) (r : Fin 256) (n : Fin 1024) : (win0_3.blk t).view.emb (ix2 r n : S256x1024.Idx)
    = (ix2 r ⟨t.val * 1024 + n, col_lt t n⟩ : S256x14336.Idx) := by
  funext a; apply Fin.ext; fin_cases a <;> blk_simp [(idx t).2.2.2.1] <;> simp [ix2]

theorem emb4 (t : Fin cfg0.N) (i : Fin 8) (n : Fin 1024) : (win0_4.blk t).view.emb (ix2 i n : S8x1024.Idx)
    = (ix2 i ⟨t.val * 1024 + n, col_lt t n⟩ : S8x14336.Idx) := by
  funext a; apply Fin.ext; fin_cases a <;> blk_simp [(idx t).2.2.2.2] <;> simp [ix2]

/-- After the run the result array is the product: every point writes its tile of it and the tiles fill the array. -/
theorem final (c : Dev nD) : (dats m 0 c).arrAt 4 cfg0.N = G m c := by
  refine (dats m 0 c).arrAt_eq_of_covers 4 _ (by decide +kernel) fun t hf y => ?_
  blk_simp
  rw [after0_4, outsAt_eq]
  obtain ⟨i, n, rfl⟩ : ∃ (i : Fin 8) (n : Fin 1024), y = ix2 i n := ⟨y 0, y 1, eq_ix2 y⟩
  rw [body_apply]
  blk_simp [iblk]
  rw [V_x, V_g, V_main_arg1, V_main_arg2, emb0, emb4]
  refine congrArg (· * Gl m c (ix2 0 0)) (Finset.sum_congr rfl fun r _ => ?_)
  rw [emb1, emb1, emb2, emb3]
  rfl

/-- The run: the result array ends at the product, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.RefValue

end
-- ==== Proof.ReferenceValue.lean ====
/-
  The reference's result at the extended reals: its one call, over whole arrays, computes `Product.product` of the
  reference's arguments.
-/
module

public import proofs.«01_k».proof.Proof.Gen.ReferenceIdeal.Value
public import proofs.«01_k».proof.Proof.Product
public import Idealize.ShloMosaic.Lib.Pipeline.ValueKit

@[expose] public section

set_option maxRecDepth 16384

noncomputable section

namespace Cert.ReferenceIdeal.RefValue

open Cert.ReferenceIdeal Cert.ReferenceIdeal.Gen Cert.Product
open Idealize.ShloMosaic Idealize.ShloMosaic.TcCoe Idealize.SL.Sem

variable (m : (ℓ : Loc nD τ sig) → Buf (Elt Ideal) ℓ) (ρ : Dev nD → PrngReg)

/-- The activations: the argument as a matrix of eight rows. -/
abbrev X (c : Dev nD) : FVec Ideal S8x4096 .bf16 :=
  shapeCast S8x4096 (m ((c : Thread nD τ).loc main_arg0)) shapeCasts_S8x1x4096_S8x4096

/-- The global scale: the argument as a matrix of one element. -/
abbrev Gl (c : Dev nD) : FVec Ideal S1x1 .f32 :=
  shapeCast S1x1 (m ((c : Thread nD τ).loc main_arg3)) shapeCasts_S_S1x1

/-- The call finds every second column of the activations, from the first on, -/
theorem V_even (c : Dev nD) : V m c main_v1 = Host.slice S8x2048 ![0, 0] ![1, 2] (X m c) slicesBy_S8x4096_S8x2048_0s1_0s2 := by
  unfold_abbrev_sides
  after_results
  rfl

/-- every second column from the second on, -/
theorem V_odd (c : Dev nD) : V m c main_v2 = Host.slice S8x2048 ![0, 1] ![1, 2] (X m c) slicesBy_S8x4096_S8x2048_0s1_1s2 := by
  unfold_abbrev_sides
  after_results
  rfl

/-- and the global scale. -/
theorem V_g (c : Dev nD) : V m c main_v3 = Gl m c := by
  unfold_abbrev_sides
  after_results
  rfl

/-- The even columns at an index. -/
theorem even_apply (x : FVec Ideal S8x4096 .bf16) (i : Fin 8) (r : Fin 2048) :
    Host.slice S8x2048 ![0, 0] ![1, 2] x slicesBy_S8x4096_S8x2048_0s1_0s2 (ix2 i r) = x (ix2 i ⟨2 * r, by omega⟩) := by
  pointwise

/-- The odd columns at an index. -/
theorem odd_apply (x : FVec Ideal S8x4096 .bf16) (i : Fin 8) (r : Fin 2048) :
    Host.slice S8x2048 ![0, 1] ![1, 2] x slicesBy_S8x4096_S8x2048_0s1_1s2 (ix2 i r) = x (ix2 i ⟨2 * r + 1, by omega⟩) := by
  pointwise
  exact congrArg x (congrArg (ix2 i) (Fin.ext (Nat.add_comm 1 (2 * r.val))))

/-- The reference's result array: the product of its arguments. -/
abbrev G (c : Dev nD) : FVec Ideal S8x14336 .bf16 :=
  product (X m c) (m ((c : Thread nD τ).loc main_arg1)) (m ((c : Thread nD τ).loc main_arg2)) (Gl m c)

/-- The call has one point, at which every block is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The result of the call's body on whole arrays, at an index: the even rows' sum plus the odd rows', times the global
    scale. -/
theorem out_apply (xe xo : Vec Ideal S8x2048 .bf16) (w : Vec Ideal S2048x14336 .i8) (s : Vec Ideal S256x14336 .fp8e4m3)
    (g : Vec Ideal S1x1 .f32) (i : Fin 8) (n : Fin 14336) :
    out0_5 xe xo w s g (ix2 i n) = ((∑ r : Fin 2048, (xe (ix2 i r) : EReal) * (lo (w (ix2 r n)) * s (ix2 ⟨r / 8, by omega⟩ n)))
      + ∑ r : Fin 2048, (xo (ix2 i r) : EReal) * (hi (w (ix2 r n)) * s (ix2 ⟨r / 8, by omega⟩ n))) * g (ix2 0 0) := by
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17]
  simp only [lo_eq, hi_eq]
  rfl

/-- The blocks are the arrays as the call finds them. -/
theorem iblks (c : Dev nD) (t : Fin cfg0.N) : iblk m c 0 t = V m c main_v1 ∧ iblk m c 1 t = V m c main_v2
    ∧ iblk m c 2 t = m ((c : Thread nD τ).loc main_arg1) ∧ iblk m c 3 t = m ((c : Thread nD τ).loc main_arg2)
    ∧ iblk m c 4 t = V m c main_v3 := by
  rw [← V_main_arg1 m c, ← V_main_arg2 m c]
  obtain ⟨e0, e1, e2, e3, e4, e5⟩ := idx t
  refine ⟨?_, ?_, ?_, ?_, ?_⟩
  · blk_ext! [iblk, e0]
  · blk_ext! [iblk, e1]
  · blk_ext! [iblk, e2]
  · blk_ext! [iblk, e3]
  · blk_ext! [iblk, e4]

/-- After the run the result array is the product. -/
theorem final (c : Dev nD) : (dats m 0 c).arrAt 5 cfg0.N = G m c := by
  refine (dats m 0 c).arrAt_eq_of_covers 5 _ (by decide +kernel) fun t hf y => ?_
  obtain ⟨b0, b1, b2, b3, b4⟩ := iblks m c t
  have e5 := (idx t).2.2.2.2.2
  obtain ⟨i, n, rfl⟩ : ∃ (i : Fin 8) (n : Fin 14336), y = ix2 i n := ⟨y 0, y 1, eq_ix2 y⟩
  have he : (win0_5.blk t).view.emb (ix2 i n : S8x14336.Idx) = (ix2 i n : S8x14336.Idx) := by
    funext a; apply Fin.ext; fin_cases a <;> blk_simp [e5] <;> simp [ix2]
  blk_simp
  rw [after0_5, b0, b1, b2, b3, b4, out_apply, V_even, V_odd, V_g, he, ← Finset.sum_add_distrib]
  refine congrArg (· * Gl m c (ix2 0 0)) (Finset.sum_congr rfl fun r _ => ?_)
  rw [even_apply, odd_apply]
  rfl

/-- The run: the result array ends at the product, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.ReferenceIdeal.RefValue

end
-- ==== Proof.lean ====
/-
  The proof of `Cert.Claim`: the three programs run without fault and leave their arguments unchanged, the ideal kernel is
  the kernel, and over the extended reals kernel and reference end with the same result. The frames are the generated
  ones; the two results are computed in Proof/KernelValue.lean and Proof/ReferenceValue.lean, both as `Product.product`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Over the extended reals the kernel and the reference, run on equal arguments, end with one result, the product of the
    activations and the decoded, scaled weights under the global scale, and leave their arguments unchanged. -/
theorem algebraic : Cert.algebraic_KernelIdeal_ReferenceIdeal := fun m g m' g' _ hag =>
  ⟨fun c => Cert.KernelIdeal.RefValue.G m c, Cert.KernelIdeal.RefValue.run m g,
    (θ_run _ _ _).mono (fun _ h c => ⟨(h c).1.trans (by
      obtain ⟨h0, h1, h2, h3⟩ := hag c
      unfold Cert.ReferenceIdeal.RefValue.G Cert.ReferenceIdeal.RefValue.X Cert.ReferenceIdeal.RefValue.Gl
      rw [h0, h1, h2, h3]), (h c).2⟩) (Cert.ReferenceIdeal.RefValue.run m' g')⟩

/-- All five claims: the three frames, that the ideal kernel is the kernel, and the equality of the results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, algebraic⟩

end Cert.Proof

end
